-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2_0)) (v1 : (c : Dev Cert.Kernel.nD) → Buf (Elt Bits) ((c.tc : Thread Cert.Kernel.nD Cert.Kernel.τ).loc Cert.Kernel.main_v2_1)) (v2 : (c : Dev Cert.Kernel.nD) → Buf (Elt Bits) ((c.tc : Thread Cert.Kernel.nD Cert.Kernel.τ).loc Cert.Kernel.main_v2_2)) (v3 : (c : Dev Cert.Kernel.nD) → Buf (Elt Bits) ((c.tc : Thread Cert.Kernel.nD Cert.Kernel.τ).loc Cert.Kernel.main_v2_3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2_0) = v0 c
          ∧ r.2.mem ((c.tc : Thread Cert.Kernel.nD Cert.Kernel.τ).loc Cert.Kernel.main_v2_1) = v1 c
          ∧ r.2.mem ((c.tc : Thread Cert.Kernel.nD Cert.Kernel.τ).loc Cert.Kernel.main_v2_2) = v2 c
          ∧ r.2.mem ((c.tc : Thread Cert.Kernel.nD Cert.Kernel.τ).loc Cert.Kernel.main_v2_3) = v3 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2_0) = v0 c
          ∧ r.2.mem ((c.tc : Thread Cert.Reference.nD Cert.Reference.τ).loc Cert.Reference.main_v2_1) = v1 c
          ∧ r.2.mem ((c.tc : Thread Cert.Reference.nD Cert.Reference.τ).loc Cert.Reference.main_v2_2) = v2 c
          ∧ r.2.mem ((c.tc : Thread Cert.Reference.nD Cert.Reference.τ).loc Cert.Reference.main_v2_3) = v3 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S16x1x7168 : Shape := ⟨3, ![16, 1, 7168]⟩
abbrev S7168x10240 : Shape := ⟨2, ![7168, 10240]⟩
abbrev S10240 : Shape := ⟨1, ![10240]⟩
abbrev S1x10240 : Shape := ⟨2, ![1, 10240]⟩
abbrev S16x7168 : Shape := ⟨2, ![16, 7168]⟩
abbrev S16x1 : Shape := ⟨2, ![16, 1]⟩
abbrev S16x5120 : Shape := ⟨2, ![16, 5120]⟩
abbrev S7168x512 : Shape := ⟨2, ![7168, 512]⟩
abbrev S1x512 : Shape := ⟨2, ![1, 512]⟩
abbrev S16 : Shape := ⟨1, ![16]⟩
abbrev S16x512 : Shape := ⟨2, ![16, 512]⟩

abbrev nBuf : Space → Nat
  | .hbm => 9
  | .vmem => 14
  | .smem => 0
  | _ => 0

abbrev bufTy : (tb : Table) → Fin (tcTables nBuf tb) → BufTy
  | .hbm, ⟨0, _⟩ => ⟨S16x1x7168, .bf16⟩
  | .hbm, ⟨1, _⟩ => ⟨S7168x10240, .fp8e4m3⟩
  | .hbm, ⟨2, _⟩ => ⟨S10240, .f32⟩
  | .hbm, ⟨3, _⟩ => ⟨S1x10240, .f32⟩
  | .hbm, ⟨4, _⟩ => ⟨S16x7168, .bf16⟩
  | .hbm, ⟨5, _⟩ => ⟨S16x1, .f32⟩
  | .hbm, ⟨6, _⟩ => ⟨S16x5120, .fp8e4m3⟩
  | .hbm, ⟨7, _⟩ => ⟨S16x7168, .fp8e4m3⟩
  | .hbm, ⟨8, _⟩ => ⟨S16x1, .f32⟩
  | .local _ .vmem, ⟨0, _⟩ => ⟨S16x7168, .bf16⟩
  | .local _ .vmem, ⟨1, _⟩ => ⟨S7168x512, .fp8e4m3⟩
  | .local _ .vmem, ⟨2, _⟩ => ⟨S7168x512, .fp8e4m3⟩
  | .local _ .vmem, ⟨3, _⟩ => ⟨S7168x512, .fp8e4m3⟩
  | .local _ .vmem, ⟨4, _⟩ => ⟨S7168x512, .fp8e4m3⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S16x1, .f32⟩
  | .local _ .vmem, ⟨10, _⟩ => ⟨S16x5120, .fp8e4m3⟩
  | .local _ .vmem, ⟨11, _⟩ => ⟨S16x7168, .fp8e4m3⟩
  | .local _ .vmem, ⟨12, _⟩ => ⟨S16x1, .f32⟩
  | .local _ .vmem, ⟨13, _⟩ => ⟨S16x5120, .f32⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [BitOps F]

abbrev grid0 : Pipeline.Grid := ⟨1, ![10], ![false]⟩

def k0_mult1 (i : grid0.Coords) : BitVec 32 :=
  let arg0 : BitVec 32 := BitVec.ofNat 32 (i 0).val
  let c512_i32 : BitVec 32 := 512#32
  let v26 : BitVec 32 := Scalar.muli arg0 c512_i32
  v26
def k0_off1 (i : grid0.Coords) : Fin 2 → Nat :=
  let c0_13 : Index := 0#32
  let arg0 : BitVec 32 := BitVec.ofNat 32 (i 0).val
  let c512_i32 : BitVec 32 := 512#32
  let v26 : BitVec 32 := Scalar.muli arg0 c512_i32
  let v27 : BitVec 32 := v26
  let v28 : Index := Scalar.indexCast v27
  ![0, v28.toNat]
def k0_cond2 (i : grid0.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_14 : BitVec 32 := 0#32
  let v34 : BitVec 1 := Scalar.cmpi .ne v33 c0_i32_14
  v34

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference.lean ====
abbrev S16x1x7168 : Shape := ⟨3, ![16, 1, 7168]⟩
abbrev S7168x10240 : Shape := ⟨2, ![7168, 10240]⟩
abbrev S10240 : Shape := ⟨1, ![10240]⟩
abbrev S16x7168 : Shape := ⟨2, ![16, 7168]⟩
abbrev S1x10240 : Shape := ⟨2, ![1, 10240]⟩
abbrev S16x1 : Shape := ⟨2, ![16, 1]⟩
abbrev S16x5120 : Shape := ⟨2, ![16, 5120]⟩
abbrev S16 : Shape := ⟨1, ![16]⟩
abbrev S7168x512 : Shape := ⟨2, ![7168, 512]⟩
abbrev S16x512 : Shape := ⟨2, ![16, 512]⟩
abbrev S16x10240 : Shape := ⟨2, ![16, 10240]⟩

abbrev nBuf : Space → Nat
  | .hbm => 9
  | .vmem => 7
  | .smem => 0
  | _ => 0

abbrev bufTy : (tb : Table) → Fin (tcTables nBuf tb) → BufTy
  | .hbm, ⟨0, _⟩ => ⟨S16x1x7168, .bf16⟩
  | .hbm, ⟨1, _⟩ => ⟨S7168x10240, .fp8e4m3⟩
  | .hbm, ⟨2, _⟩ => ⟨S10240, .f32⟩
  | .hbm, ⟨3, _⟩ => ⟨S16x7168, .bf16⟩
  | .hbm, ⟨4, _⟩ => ⟨S1x10240, .f32⟩
  | .hbm, ⟨5, _⟩ => ⟨S16x1, .f32⟩
  | .hbm, ⟨6, _⟩ => ⟨S16x5120, .fp8e4m3⟩
  | .hbm, ⟨7, _⟩ => ⟨S16x7168, .fp8e4m3⟩
  | .hbm, ⟨8, _⟩ => ⟨S16x1, .f32⟩
  | .local _ .vmem, ⟨0, _⟩ => ⟨S16x7168, .bf16⟩
  | .local _ .vmem, ⟨1, _⟩ => ⟨S7168x10240, .fp8e4m3⟩
  | .local _ .vmem, ⟨2, _⟩ => ⟨S1x10240, .f32⟩
  | .local _ .vmem, ⟨3, _⟩ => ⟨S16x1, .f32⟩
  | .local _ .vmem, ⟨4, _⟩ => ⟨S16x5120, .fp8e4m3⟩
  | .local _ .vmem, ⟨5, _⟩ => ⟨S16x7168, .fp8e4m3⟩
  | .local _ .vmem, ⟨6, _⟩ => ⟨S16x1, .f32⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

abbrev stage0_0 : Fin 1 → Memref sig .tc .vmem S16x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelValues.lean ====
/-
  What one call of the kernel's body computes, as functions of the blocks it reads: the row scale and the codes of
  the activations (computed at the first grid point), one slab of 512 columns of the hidden activations (computed at
  every point), and the row scale and codes of the whole hidden array (computed at the last point). Each is the
  composition of the generated payloads that the body stores.
-/
module

public import proofs.«01_k».proof.Proof.Gen.Kernel.Skeleton

@[expose] public section

noncomputable section

namespace Cert.Kernel.Hand

open Cert.Kernel Cert.Kernel.Gen
open Idealize.ShloMosaic

variable {F : FTy → Type} [BitOps F]

/-- The row scales the body computes from the activations. -/
def xScale (x : Vec F S16x7168 .bf16) : Vec F S16x1 .f32 :=
  k0_pay14 (F := F) (k0_pay10 (F := F)) (k0_pay12 (F := F)) (k0_pay13 (F := F) (k0_pay6 x) (k0_pay7 x))

/-- The codes the body computes from the activations. -/
def xCodes (x : Vec F S16x7168 .bf16) : Vec F S16x7168 .fp8e4m3 :=
  k0_pay1 (k0_pay4 x) (k0_pay15 (k0_pay9 (F := F))) (k0_pay17 (k0_pay9 (F := F)))
    (k0_pay18 (k0_pay8 (k0_pay6 x) (k0_pay7 x)) (k0_pay9 (F := F)))

/-- One slab of the hidden activations, from the codes and scales and the point's blocks of the two weights and
    their scales. -/
def hSlab (xc : Vec F S16x7168 .fp8e4m3) (xs : Vec F S16x1 .f32) (wg wu : Vec F S7168x512 .fp8e4m3)
    (sg su : Vec F S1x512 .f32) : Vec F S16x512 .f32 := k0_pay2 xc xs wg wu sg su

/-- The row scales the body computes from the whole hidden array. -/
def hScale (h : Vec F S16x5120 .f32) : Vec F S16x1 .f32 :=
  k0_pay25 (F := F) (k0_pay20 h) (k0_pay21 h) k0_pay22

/-- The codes the body computes from the whole hidden array. -/
def hCodes (h : Vec F S16x5120 .f32) : Vec F S16x5120 .fp8e4m3 :=
  k0_pay3 h (k0_pay26 (k0_pay23 (k0_pay20 h) (k0_pay21 h) k0_pay22) (k0_pay24 (F := F)))

/-- The rectangle of the scratch that grid point `i` stores its slab into. -/
abbrev slabRect (i : grid0.Coords) : Rect S16x5120 :=
  Rect.unit (s := S16x5120) (k0_off1 i) S16x512.size (k0_off1_inb i)

/-- `h'` is `h` with grid point `i`'s slab overwritten by `v`. -/
def Stored (i : grid0.Coords) (v : Vec F S16x512 .f32) (h h' : Vec F S16x5120 .f32) : Prop :=
  (∀ j : S16x512.Idx, h' ((slabRect i).idx j) = v j) ∧ ∀ y, y ∉ (slabRect i).set → h' y = h y

end Cert.Kernel.Hand

end
-- ==== Proof.KernelBody.lean ====
/-
  What one call of the kernel's body does, in its three cases: at the first grid point, in the middle, and at the last.
  Each theorem starts from the ownership of the blocks the call uses, and ends with the blocks it read unchanged and the blocks
  it wrote at the values of `KernelValues`.
-/
module

public import proofs.«01_k».proof.Proof.KernelValues
public import proofs.«01_k».proof.Proof.Gen.Kernel.Frame
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Writing one slab through a view of the scratch overwrites that slab and leaves the rest. -/
theorem stored_writes (r : Memref sig .tc .vmem S16x5120 .f32) (f : r.view.ty.Contents (Elt F)) (i : grid0.Coords) (v : Vec F S16x512 .f32) :
    Stored i v (r.view.read (Elt F) f) (r.view.read (Elt F) (r.view.writes (Elt F) f [⟨slabRect i, v⟩])) :=
  ⟨fun j => View.read_writes_cons_emb r.view f (slabRect i) v [] j, fun y hy => View.read_writes_cons_miss r.view f ⟨slabRect i, v⟩ [] y hy⟩

set_option maxHeartbeats 1000000 in
/-- The body at the first grid point: it quantises the activations, storing their codes and row scales, and stores the first slab of
    the hidden array. -/
theorem sound_first (c : Dev nD) (E : Set ℕ) (i : grid0.Coords) (h1 : k0_cond1 i = 1#1) (h2 : ¬ k0_cond2 i = 1#1)
    (arg1 : Memref sig .tc .vmem S16x7168 .bf16) (harg1 : arg1.IsWhole) (arg2 : Memref sig .tc .vmem S7168x512 .fp8e4m3) (harg2 : arg2.IsWhole)
    (arg3 : Memref sig .tc .vmem S7168x512 .fp8e4m3) (harg3 : arg3.IsWhole) (arg4 : Memref sig .tc .vmem S1x512 .f32) (harg4 : arg4.IsWhole)
    (arg5 : Memref sig .tc .vmem S1x512 .f32) (harg5 : arg5.IsWhole) (arg6 : Memref sig .tc .vmem S16x1 .f32) (harg6 : arg6.IsWhole)
    (arg7 : Memref sig .tc .vmem S16x5120 .fp8e4m3) (harg7 : arg7.IsWhole) (arg8 : Memref sig .tc .vmem S16x7168 .fp8e4m3) (harg8 : arg8.IsWhole)
    (arg9 : Memref sig .tc .vmem S16x1 .f32) (harg9 : arg9.IsWhole) (arg10 : Memref sig .tc .vmem S16x5120 .f32) (harg10 : arg10.IsWhole)
    (x : Vec F S16x7168 .bf16) (wg wu : Vec F S7168x512 .fp8e4m3) (sg su : Vec F S1x512 .f32) (h : Vec F S16x5120 .f32) (K : PUnit → sProp 𝕄) :
    iprop(owns (c : Thread nD τ) arg1 fullShare x ∗ owns (c : Thread nD τ) arg2 fullShare wg ∗ owns (c : Thread nD τ) arg3 fullShare wu
        ∗ owns (c : Thread nD τ) arg4 fullShare sg ∗ owns (c : Thread nD τ) arg5 fullShare su
        ∗ (∃ d, owns (c : Thread nD τ) arg8 fullShare d) ∗ (∃ d, owns (c : Thread nD τ) arg9 fullShare d)
        ∗ owns (c : Thread nD τ) arg10 fullShare h
        ∗ (iprop(owns (c : Thread nD τ) arg1 fullShare x ∗ owns (c : Thread nD τ) arg2 fullShare wg ∗ owns (c : Thread nD τ) arg3 fullShare wu
            ∗ owns (c : Thread nD τ) arg4 fullShare sg ∗ owns (c : Thread nD τ) arg5 fullShare su
            ∗ owns (c : Thread nD τ) arg8 fullShare (xCodes x) ∗ owns (c : Thread nD τ) arg9 fullShare (xScale x)
            ∗ (∃ h', ⌜Stored i (hSlab (xCodes x) (xScale x) wg wu sg su) h h'⌝ ∗ owns (c : Thread nD τ) arg10 fullShare h')) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10) K := by
  simp only [cc0_swiglu_gate_up_fp8_eq_skeleton]; unfold cc0_swiglu_gate_up_fp8_skel
  simp only [k0_part1_eq_skeleton, k0_part2_eq_skeleton, k0_part3_eq_skeleton, k0_part4_eq_skeleton, k0_part5_eq_skeleton, k0_part6_eq_skeleton]
  simp only [dif_pos h1, dif_neg h2]
  unfold owns
  iintro ⟨⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%f10, %hf10, H10⟩, Hk⟩
  subst hf1 hf2 hf3 hf4 hf5 hf10
  sl_exec
  sl_step
  have e1 : View.readAt (Elt F) arg1.view (Rect.unit ![0, 0] ![16, 7168] inb_S16x7168_S16x7168_0_0).toLoadRect f1 = arg1.view.read (Elt F) f1 :=
    View.readAt_full arg1.view f1 inb_S16x7168_S16x7168_0_0
  have e2 : View.readAt (Elt F) arg2.view (Rect.unit ![0, 0] ![7168, 512] inb_S7168x512_S7168x512_0_0).toLoadRect f2 = arg2.view.read (Elt F) f2 :=
    View.readAt_full arg2.view f2 inb_S7168x512_S7168x512_0_0
  have e3 : View.readAt (Elt F) arg3.view (Rect.unit ![0, 0] ![7168, 512] inb_S7168x512_S7168x512_0_0).toLoadRect f3 = arg3.view.read (Elt F) f3 :=
    View.readAt_full arg3.view f3 inb_S7168x512_S7168x512_0_0
  have e4 : View.readAt (Elt F) arg4.view (Rect.unit ![0, 0] ![1, 512] inb_S1x512_S1x512_0_0).toLoadRect f4 = arg4.view.read (Elt F) f4 :=
    View.readAt_full arg4.view f4 inb_S1x512_S1x512_0_0
  have e5 : View.readAt (Elt F) arg5.view (Rect.unit ![0, 0] ![1, 512] inb_S1x512_S1x512_0_0).toLoadRect f5 = arg5.view.read (Elt F) f5 :=
    View.readAt_full arg5.view f5 inb_S1x512_S1x512_0_0
  have x8 : View.read (Elt F) arg8.view (arg8.view.writes (Elt F) f8 (sound_first.sl.H8_1 c arg1 f1)) = xCodes (arg1.view.read (Elt F) f1) := by
    refine (View.read_writes_full arg8.view f8 inb_S16x7168_S16x7168_0_0 _ []).trans ?_
    rw [← e1]; rfl
  have x9 : View.read (Elt F) arg9.view (arg9.view.writes (Elt F) f9 (sound_first.sl.H9_1 c arg1 f1)) = xScale (arg1.view.read (Elt F) f1) := by
    refine (View.read_writes_full arg9.view f9 inb_S16x1_S16x1_0_0 _ []).trans ?_
    rw [← e1]; rfl
  have e8 : sound_first.sl.v3 c arg1 arg8 f1 = xCodes (arg1.view.read (Elt F) f1) := by
    refine (View.readCov_full arg8.view inb_S16x7168_S16x7168_0_0 inb_S16x7168_S16x7168_0_0 _ []).trans ?_
    exact (View.read_writes_full arg8.view f8 inb_S16x7168_S16x7168_0_0 _ []).symm.trans x8
  have e9 : sound_first.sl.v5 c arg1 arg9 f1 = xScale (arg1.view.read (Elt F) f1) := by
    refine (View.readCov_full arg9.view inb_S16x1_S16x1_0_0 inb_S16x1_S16x1_0_0 _ []).trans ?_
    exact (View.read_writes_full arg9.view f9 inb_S16x1_S16x1_0_0 _ []).symm.trans x9
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro; exact x8
  isplitl [H9]
  · iexists _; isplitr
    swap; · iexact H9
    ipureintro; exact x9
  iexists _; isplitr
  swap
  · iexists _; isplitr
    swap; · iexact H10
    ipureintro; rfl
  ipureintro
  rw [e8, e9, e2, e3, e4, e5]
  exact stored_writes arg10 f10 i _

set_option maxHeartbeats 1000000 in
/-- The body at a grid point that is neither first nor last: it stores its slab of the hidden array. -/
theorem sound_mid (c : Dev nD) (E : Set ℕ) (i : grid0.Coords) (h1 : ¬ k0_cond1 i = 1#1) (h2 : ¬ k0_cond2 i = 1#1)
    (arg1 : Memref sig .tc .vmem S16x7168 .bf16) (harg1 : arg1.IsWhole) (arg2 : Memref sig .tc .vmem S7168x512 .fp8e4m3) (harg2 : arg2.IsWhole)
    (arg3 : Memref sig .tc .vmem S7168x512 .fp8e4m3) (harg3 : arg3.IsWhole) (arg4 : Memref sig .tc .vmem S1x512 .f32) (harg4 : arg4.IsWhole)
    (arg5 : Memref sig .tc .vmem S1x512 .f32) (harg5 : arg5.IsWhole) (arg6 : Memref sig .tc .vmem S16x1 .f32) (harg6 : arg6.IsWhole)
    (arg7 : Memref sig .tc .vmem S16x5120 .fp8e4m3) (harg7 : arg7.IsWhole) (arg8 : Memref sig .tc .vmem S16x7168 .fp8e4m3) (harg8 : arg8.IsWhole)
    (arg9 : Memref sig .tc .vmem S16x1 .f32) (harg9 : arg9.IsWhole) (arg10 : Memref sig .tc .vmem S16x5120 .f32) (harg10 : arg10.IsWhole)
    (x : Vec F S16x7168 .bf16) (wg wu : Vec F S7168x512 .fp8e4m3) (sg su : Vec F S1x512 .f32) (xc : Vec F S16x7168 .fp8e4m3)
    (xs : Vec F S16x1 .f32) (h : Vec F S16x5120 .f32) (K : PUnit → sProp 𝕄) :
    iprop(owns (c : Thread nD τ) arg1 fullShare x ∗ owns (c : Thread nD τ) arg2 fullShare wg ∗ owns (c : Thread nD τ) arg3 fullShare wu ∗ owns (c : Thread nD τ) arg4 fullShare sg ∗ owns (c : Thread nD τ) arg5 fullShare su ∗ owns (c : Thread nD τ) arg8 fullShare xc ∗ owns (c : Thread nD τ) arg9 fullShare xs
        ∗ owns (c : Thread nD τ) arg10 fullShare h
        ∗ (iprop(owns (c : Thread nD τ) arg1 fullShare x ∗ owns (c : Thread nD τ) arg2 fullShare wg ∗ owns (c : Thread nD τ) arg3 fullShare wu ∗ owns (c : Thread nD τ) arg4 fullShare sg ∗ owns (c : Thread nD τ) arg5 fullShare su ∗ owns (c : Thread nD τ) arg8 fullShare xc ∗ owns (c : Thread nD τ) arg9 fullShare xs ∗ (∃ h', ⌜Stored i (hSlab xc xs wg wu sg su) h h'⌝ ∗ owns (c : Thread nD τ) arg10 fullShare h')) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10) K := by
  simp only [cc0_swiglu_gate_up_fp8_eq_skeleton]; unfold cc0_swiglu_gate_up_fp8_skel
  simp only [k0_part1_eq_skeleton, k0_part2_eq_skeleton, k0_part3_eq_skeleton, k0_part4_eq_skeleton, k0_part5_eq_skeleton, k0_part6_eq_skeleton]
  simp only [dif_neg h1, dif_neg h2]
  unfold owns
  iintro ⟨⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  subst hf1 hf2 hf3 hf4 hf5 hf8 hf9 hf10
  sl_exec
  sl_step
  have e2 : View.readAt (Elt F) arg2.view (Rect.unit ![0, 0] ![7168, 512] inb_S7168x512_S7168x512_0_0).toLoadRect f2 = arg2.view.read (Elt F) f2 :=
    View.readAt_full arg2.view f2 inb_S7168x512_S7168x512_0_0
  have e3 : View.readAt (Elt F) arg3.view (Rect.unit ![0, 0] ![7168, 512] inb_S7168x512_S7168x512_0_0).toLoadRect f3 = arg3.view.read (Elt F) f3 :=
    View.readAt_full arg3.view f3 inb_S7168x512_S7168x512_0_0
  have e4 : View.readAt (Elt F) arg4.view (Rect.unit ![0, 0] ![1, 512] inb_S1x512_S1x512_0_0).toLoadRect f4 = arg4.view.read (Elt F) f4 :=
    View.readAt_full arg4.view f4 inb_S1x512_S1x512_0_0
  have e5 : View.readAt (Elt F) arg5.view (Rect.unit ![0, 0] ![1, 512] inb_S1x512_S1x512_0_0).toLoadRect f5 = arg5.view.read (Elt F) f5 :=
    View.readAt_full arg5.view f5 inb_S1x512_S1x512_0_0
  have e8 : View.readAt (Elt F) arg8.view (Rect.unit ![0, 0] ![16, 7168] inb_S16x7168_S16x7168_0_0).toLoadRect f8 = arg8.view.read (Elt F) f8 :=
    View.readAt_full arg8.view f8 inb_S16x7168_S16x7168_0_0
  have e9 : View.readAt (Elt F) arg9.view (Rect.unit ![0, 0] ![16, 1] inb_S16x1_S16x1_0_0).toLoadRect f9 = arg9.view.read (Elt F) f9 :=
    View.readAt_full arg9.view f9 inb_S16x1_S16x1_0_0
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists f8; isplitr; · ipureintro; rfl
    iexact H8
  isplitl [H9]
  · iexists f9; isplitr; · ipureintro; rfl
    iexact H9
  iexists _; isplitr
  swap
  · iexists _; isplitr
    swap; · iexact H10
    ipureintro; rfl
  ipureintro
  rw [e8, e9, e2, e3, e4, e5]
  exact stored_writes arg10 f10 i _

set_option maxHeartbeats 1000000 in
/-- The body at the last grid point: it stores its slab of the hidden array, then quantises the whole array and stores the row
    scales and the codes. -/
theorem sound_last (c : Dev nD) (E : Set ℕ) (i : grid0.Coords) (h1 : ¬ k0_cond1 i = 1#1) (h2 : k0_cond2 i = 1#1)
    (arg1 : Memref sig .tc .vmem S16x7168 .bf16) (harg1 : arg1.IsWhole) (arg2 : Memref sig .tc .vmem S7168x512 .fp8e4m3) (harg2 : arg2.IsWhole)
    (arg3 : Memref sig .tc .vmem S7168x512 .fp8e4m3) (harg3 : arg3.IsWhole) (arg4 : Memref sig .tc .vmem S1x512 .f32) (harg4 : arg4.IsWhole)
    (arg5 : Memref sig .tc .vmem S1x512 .f32) (harg5 : arg5.IsWhole) (arg6 : Memref sig .tc .vmem S16x1 .f32) (harg6 : arg6.IsWhole)
    (arg7 : Memref sig .tc .vmem S16x5120 .fp8e4m3) (harg7 : arg7.IsWhole) (arg8 : Memref sig .tc .vmem S16x7168 .fp8e4m3) (harg8 : arg8.IsWhole)
    (arg9 : Memref sig .tc .vmem S16x1 .f32) (harg9 : arg9.IsWhole) (arg10 : Memref sig .tc .vmem S16x5120 .f32) (harg10 : arg10.IsWhole)
    (x : Vec F S16x7168 .bf16) (wg wu : Vec F S7168x512 .fp8e4m3) (sg su : Vec F S1x512 .f32) (xc : Vec F S16x7168 .fp8e4m3)
    (xs : Vec F S16x1 .f32) (h : Vec F S16x5120 .f32) (K : PUnit → sProp 𝕄) :
    iprop(owns (c : Thread nD τ) arg1 fullShare x ∗ owns (c : Thread nD τ) arg2 fullShare wg ∗ owns (c : Thread nD τ) arg3 fullShare wu ∗ owns (c : Thread nD τ) arg4 fullShare sg ∗ owns (c : Thread nD τ) arg5 fullShare su ∗ owns (c : Thread nD τ) arg8 fullShare xc ∗ owns (c : Thread nD τ) arg9 fullShare xs ∗ (∃ d, owns (c : Thread nD τ) arg6 fullShare d) ∗ (∃ d, owns (c : Thread nD τ) arg7 fullShare d)
        ∗ owns (c : Thread nD τ) arg10 fullShare h
        ∗ (iprop(owns (c : Thread nD τ) arg1 fullShare x ∗ owns (c : Thread nD τ) arg2 fullShare wg ∗ owns (c : Thread nD τ) arg3 fullShare wu ∗ owns (c : Thread nD τ) arg4 fullShare sg ∗ owns (c : Thread nD τ) arg5 fullShare su ∗ owns (c : Thread nD τ) arg8 fullShare xc ∗ owns (c : Thread nD τ) arg9 fullShare xs ∗ (∃ h', ⌜Stored i (hSlab xc xs wg wu sg su) h h'⌝ ∗ owns (c : Thread nD τ) arg6 fullShare (hScale h') ∗ owns (c : Thread nD τ) arg7 fullShare (hCodes h') ∗ owns (c : Thread nD τ) arg10 fullShare h')) -∗ K ⟨⟩))
      ⊢ wp frame (wpE (defs₀ (F := F)) Variants.none c none) E (cc0_swiglu_gate_up_fp8 i arg1 harg1 arg2 harg2 arg3 harg3 arg4 harg4 arg5 harg5 arg6 harg6 arg7 harg7 arg8 harg8 arg9 harg9 arg10 harg10) K := by
  simp only [cc0_swiglu_gate_up_fp8_eq_skeleton]; unfold cc0_swiglu_gate_up_fp8_skel
  simp only [k0_part1_eq_skeleton, k0_part2_eq_skeleton, k0_part3_eq_skeleton, k0_part4_eq_skeleton, k0_part5_eq_skeleton, k0_part6_eq_skeleton]
  simp only [dif_neg h1, dif_pos h2]
  unfold owns
  iintro ⟨⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%d6, %f6, -, H6⟩, ⟨%d7, %f7, -, H7⟩, ⟨%f10, %hf10, H10⟩, Hk⟩
  subst hf1 hf2 hf3 hf4 hf5 hf8 hf9 hf10
  sl_exec
  sl_step
  have e2 : View.readAt (Elt F) arg2.view (Rect.unit ![0, 0] ![7168, 512] inb_S7168x512_S7168x512_0_0).toLoadRect f2 = arg2.view.read (Elt F) f2 :=
    View.readAt_full arg2.view f2 inb_S7168x512_S7168x512_0_0
  have e3 : View.readAt (Elt F) arg3.view (Rect.unit ![0, 0] ![7168, 512] inb_S7168x512_S7168x512_0_0).toLoadRect f3 = arg3.view.read (Elt F) f3 :=
    View.readAt_full arg3.view f3 inb_S7168x512_S7168x512_0_0
  have e4 : View.readAt (Elt F) arg4.view (Rect.unit ![0, 0] ![1, 512] inb_S1x512_S1x512_0_0).toLoadRect f4 = arg4.view.read (Elt F) f4 :=
    View.readAt_full arg4.view f4 inb_S1x512_S1x512_0_0
  have e5 : View.readAt (Elt F) arg5.view (Rect.unit ![0, 0] ![1, 512] inb_S1x512_S1x512_0_0).toLoadRect f5 = arg5.view.read (Elt F) f5 :=
    View.readAt_full arg5.view f5 inb_S1x512_S1x512_0_0
  have e8 : View.readAt (Elt F) arg8.view (Rect.unit ![0, 0] ![16, 7168] inb_S16x7168_S16x7168_0_0).toLoadRect f8 = arg8.view.read (Elt F) f8 :=
    View.readAt_full arg8.view f8 inb_S16x7168_S16x7168_0_0
  have e9 : View.readAt (Elt F) arg9.view (Rect.unit ![0, 0] ![16, 1] inb_S16x1_S16x1_0_0).toLoadRect f9 = arg9.view.read (Elt F) f9 :=
    View.readAt_full arg9.view f9 inb_S16x1_S16x1_0_0
  have s10 : Stored i (hSlab (arg8.view.read (Elt F) f8) (arg9.view.read (Elt F) f9) (arg2.view.read (Elt F) f2) (arg3.view.read (Elt F) f3) (arg4.view.read (Elt F) f4) (arg5.view.read (Elt F) f5)) (arg10.view.read (Elt F) f10)
      (arg10.view.read (Elt F) (arg10.view.writes (Elt F) f10 (sound_last.sl.H10_1 c i arg2 arg3 arg4 arg5 arg8 arg9 f2 f3 f4 f5 f8 f9))) := by
    delta sound_last.sl.H10_1
    rw [e8, e9, e2, e3, e4, e5]
    exact stored_writes arg10 f10 i _
  have e10 : sound_last.sl.r c i arg2 arg3 arg4 arg5 arg8 arg9 arg10 f2 f3 f4 f5 f8 f9 f10
      = arg10.view.read (Elt F) (arg10.view.writes (Elt F) f10 (sound_last.sl.H10_1 c i arg2 arg3 arg4 arg5 arg8 arg9 f2 f3 f4 f5 f8 f9)) :=
    View.readAt_full arg10.view _ inb_S16x5120_S16x5120_0_0
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists f8; isplitr; · ipureintro; rfl
    iexact H8
  isplitl [H9]
  · iexists f9; isplitr; · ipureintro; rfl
    iexact H9
  iexists (arg10.view.read (Elt F) (arg10.view.writes (Elt F) f10 (sound_last.sl.H10_1 c i arg2 arg3 arg4 arg5 arg8 arg9 f2 f3 f4 f5 f8 f9))); isplitr
  swap
  · isplitl [H6]
    · iexists _; isplitr
      swap; · iexact H6
      ipureintro
      rw [← e10]
      exact View.read_writes_full arg6.view f6 inb_S16x1_S16x1_0_0 _ []
    isplitl [H7]
    · iexists _; isplitr
      swap; · iexact H7
      ipureintro
      rw [← e10]
      exact View.read_writes_full arg7.view f7 inb_S16x5120_S16x5120_0_0 _ []
    iexists _; isplitr
    swap; · iexact H10
    ipureintro; rfl
  ipureintro
  exact s10

end Cert.Kernel.Hand

end
-- ==== Proof.KernelHidden.lean ====
/-
  The hidden array as the grid fills it: which columns hold their final values before each grid point, and that one
  point's store extends them by its slab. Also what the body's two conditions and its store's offset are at each point.
-/
module

public import proofs.«01_k».proof.Proof.KernelValues
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe

variable {F : FTy → Type} [BitOps F]

/-- The first condition of the body holds at the first grid point only. -/
theorem cond1_iff : ∀ t : Fin grid0.N, k0_cond1 (grid0.coords t) = 1#1 ↔ t.val = 0 := by decide +kernel
/-- The second condition of the body holds at the last grid point only. -/
theorem cond2_iff : ∀ t : Fin grid0.N, k0_cond2 (grid0.coords t) = 1#1 ↔ t.val = 9 := by decide +kernel
/-- Grid point `t` stores its slab at column `512 * t`. -/
theorem off1_eq : ∀ t : Fin grid0.N, k0_off1 (grid0.coords t) = ![0, 512 * t.val] := by decide +kernel

/-- The grid point that computes a place of the hidden array: one per slab of 512 columns. -/
def pointOf (y : S16x5120.Idx) : Fin grid0.N :=
  ⟨(y 1).val / 512, by rw [N_0]; have h : (y 1).val < 5120 := (y 1).isLt; omega⟩

/-- A place of the hidden array within its slab. -/
def within (y : S16x5120.Idx) : S16x512.Idx
  | ⟨0, _⟩ => ⟨(y 0).val, (y 0).isLt⟩
  | ⟨1, _⟩ => ⟨(y 1).val % 512, Nat.mod_lt _ (by decide)⟩

/-- The hidden array assembled from its slabs. -/
def assemble (slabs : Fin grid0.N → Vec F S16x512 .f32) : Vec F S16x5120 .f32 := fun y => slabs (pointOf y) (within y)

/-- `h` holds the final values in every column that the first `n` grid points compute. -/
def Tracked (slabs : Fin grid0.N → Vec F S16x512 .f32) (n : ℕ) (h : Vec F S16x5120 .f32) : Prop :=
  ∀ y : S16x5120.Idx, (y 1).val < 512 * n → h y = assemble slabs y

/-- Before the first point nothing is claimed. -/
theorem tracked_zero (slabs : Fin grid0.N → Vec F S16x512 .f32) (h : Vec F S16x5120 .f32) : Tracked slabs 0 h :=
  fun y hy => absurd hy (by omega)

/-- One point's store extends the columns that hold their final values by one slab. -/
theorem tracked_succ (slabs : Fin grid0.N → Vec F S16x512 .f32) (t : Fin grid0.N) (h h' : Vec F S16x5120 .f32)
    (hs : Stored (grid0.coords t) (slabs t) h h') (ht : Tracked slabs t.val h) : Tracked slabs (t.val + 1) h' := by
  intro y hy
  have hoff := off1_eq t
  by_cases hlt : (y 1).val < 512 * t.val
  · rw [hs.2 y (fun hm => ?_)]
    · exact ht y hlt
    · have := (Rect.mem_set_unit.mp hm 1).1
      rw [hoff] at this
      exact absurd (show 512 * t.val ≤ (y 1).val from this) (by omega)
  · have hp : pointOf y = t := Fin.ext (show (y 1).val / 512 = t.val by omega)
    have hidx : (slabRect (grid0.coords t)).idx (within y) = y := by
      funext a
      apply Fin.ext
      show k0_off1 (grid0.coords t) a + 1 * (within y a).val = (y a).val
      rw [hoff]
      match a with
      | ⟨0, _⟩ => show 0 + 1 * (y 0).val = (y 0).val; omega
      | ⟨1, _⟩ => show 512 * t.val + 1 * ((y 1).val % 512) = (y 1).val; omega
    have := hs.1 (within y)
    rw [hidx] at this
    rw [this]; unfold assemble; rw [hp]

/-- After the last point the whole array holds its final values. -/
theorem tracked_all (slabs : Fin grid0.N → Vec F S16x512 .f32) (h : Vec F S16x5120 .f32) (ht : Tracked slabs 10 h) : h = assemble slabs :=
  funext fun y => ht y (show (y 1).val < 512 * 10 from (y 1).isLt)

end Cert.Kernel.Hand

end
-- ==== Proof.KernelRun.lean ====
/-
  The kernel's run: what the pipeline hands the body and takes back at each grid point, the body obligation from the three
  cases of `KernelBody`, the launch, and what each output array holds at the end.
-/
module

public import proofs.«01_k».proof.Proof.KernelBody
public import proofs.«01_k».proof.Proof.KernelHidden
public import Idealize.ShloMosaic.Lib.Pipeline.ValueKit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The activations as the body reads them. -/
def acts (c : Dev nD) : Vec F S16x7168 .bf16 := iblk m c 0 t0_0

/-- Every grid point reads the same activations. -/
theorem iblk_acts (c : Dev nD) (t : Fin cfg0.N) : iblk m c 0 t = acts m c := rfl

/-- The slab of the hidden array that grid point `t` computes. -/
def slab (c : Dev nD) (t : Fin grid0.N) : Vec F S16x512 .f32 :=
  hSlab (xCodes (acts m c)) (xScale (acts m c)) (iblk m c 1 t) (iblk m c 2 t) (iblk m c 3 t) (iblk m c 4 t)

/-- The hidden array. -/
def hidden (c : Dev nD) : Vec F S16x5120 .f32 := assemble (slab m c)

/-- The invariant before grid point `n`: the scratch holds the slabs of the points before it. -/
def inv (c : Dev nD) (n : ℕ) : sProp 𝕄 :=
  iprop((∃ h, ⌜Tracked (slab m c) n h⌝ ∗ owns (c : Thread nD τ) (Memref.whole cc0_scratch0) fullShare h) ∗ ∃ r, prngReg c r)

/-- The proof data of the pipeline: each array as the region finds it; after the body at point `t` each input's buffer at its
    block, and each output's at its final value; the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hScale (hidden m c)
    | ⟨6, _⟩ => hCodes (hidden m c)
    | ⟨7, _⟩ => xCodes (acts m c)
    | ⟨8, _⟩ => xScale (acts m c)
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hScale (hidden m c) := by dsimp only [dats]
theorem after0_6 (c : Dev nD) (t : Fin cfg0.N) : (dats m 0 c).after 6 t = hCodes (hidden m c) := by dsimp only [dats]
theorem after0_7 (c : Dev nD) (t : Fin cfg0.N) : (dats m 0 c).after 7 t = xCodes (acts m c) := by dsimp only [dats]
theorem after0_8 (c : Dev nD) (t : Fin cfg0.N) : (dats m 0 c).after 8 t = xScale (acts m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- A window whose buffer the body stores at the first grid point and at no later one holds, at every later point, what the first
    point left. -/
theorem before_stored_first (c : Dev nD) (w : Fin cfg0.W) (hw : (cfg0.win w).isOut = true)
    (hclip : ∀ (i : cfg0.grid.Coords) a, (cfg0.win w).clip i a = none)
    (hflush : ∀ t : Fin cfg0.N, (cfg0.win w).flush t = true ↔ t.val % 10 = 9)
    (hidle : ∀ t : Fin cfg0.N, cfg0.idle w (grid0.coords t) = !(decide (t.val = 0)))
    (hafter : ∀ t t', (dats m 0 c).after w t = (dats m 0 c).after w t') (d) :
    ∀ (n : ℕ) (h : n < cfg0.N), n ≠ 0 → (dats m 0 c).before w ⟨n, h⟩ d = (dats m 0 c).after w ⟨n, h⟩
  | 0, _, h0 => absurd rfl h0
  | n + 1, h, _ => by
    have hN : cfg0.N = 10 := N_0
    have hn : n < cfg0.N := by omega
    have hfl : (cfg0.win w).flush ⟨n, hn⟩ = false := by
      rw [Bool.eq_false_iff]; intro hf; have := (hflush ⟨n, hn⟩).mp hf; simp only at this; omega
    rw [(dats m 0 c).before_of_pos w ⟨n + 1, h⟩ (by simp) ((cfg0.win w).fetch_out hw _)]
    simp only [Nat.add_sub_cancel, hfl, Bool.false_eq_true, if_false]
    unfold Dat.left
    have hi := hidle ⟨n, hn⟩
    by_cases h0 : n = 0
    · rw [show cfg0.idle w (cfg0.grid.coords ⟨n, hn⟩) = false from hi.trans (by simp [h0])]
      unfold Dat.kept
      simp only []
      rw [Pipeline.fill_of_clip_none (cfg := cfg0) w _ (hclip _) d ((dats m 0 c).after w _), Window.fill_cut]
      exact hafter _ _
    · rw [show cfg0.idle w (cfg0.grid.coords ⟨n, hn⟩) = true from hi.trans (by simp [h0])]
      exact (before_stored_first c w hw hclip hflush hidle hafter d n hn h0).trans (hafter _ _)

theorem idle7 (t : Fin cfg0.N) : cfg0.idle 7 (grid0.coords t) = !(decide (t.val = 0)) := by
  show (!(k0_cond1 (grid0.coords t) == 1#1)) = _
  congr 1
  rw [Bool.eq_iff_iff, beq_iff_eq, decide_eq_true_iff]; exact cond1_iff t
theorem idle8 (t : Fin cfg0.N) : cfg0.idle 8 (grid0.coords t) = !(decide (t.val = 0)) := idle7 t
theorem idle5 (t : Fin cfg0.N) : cfg0.idle 5 (grid0.coords t) = !(decide (t.val = 9)) := by
  show (!(k0_cond2 (grid0.coords t) == 1#1)) = _
  congr 1
  rw [Bool.eq_iff_iff, beq_iff_eq, decide_eq_true_iff]; exact cond2_iff t
theorem idle6 (t : Fin cfg0.N) : cfg0.idle 6 (grid0.coords t) = !(decide (t.val = 9)) := idle5 t

theorem before0_7 (c : Dev nD) (t : Fin cfg0.N) (ht : t.val ≠ 0) (d) : (dats m 0 c).before 7 t d = xCodes (acts m c) :=
  (before_stored_first m c 7 rfl (fun _ _ => rfl) flush0_7 idle7 (fun t t' => (after0_7 m c t).trans (after0_7 m c t').symm) d t.val t.isLt ht).trans (after0_7 m c t)
theorem before0_8 (c : Dev nD) (t : Fin cfg0.N) (ht : t.val ≠ 0) (d) : (dats m 0 c).before 8 t d = xScale (acts m c) :=
  (before_stored_first m c 8 rfl (fun _ _ => rfl) flush0_8 idle8 (fun t t' => (after0_8 m c t).trans (after0_8 m c t').symm) d t.val t.isLt ht).trans (after0_8 m c t)

/-- What the body hands back of window `w`'s buffer at point `t`: as found where it stores nothing and nothing is written back,
    else at the window's value. -/
def leavesAt (c : Dev nD) (w : Fin cfg0.W) (t : Fin cfg0.N) : sProp 𝕄 :=
  match cfg0.idle w (grid0.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- Handing back a buffer that holds the window's value, where what the body found is that value. -/
theorem leavesAt_of_after (c : Dev nD) (w : Fin cfg0.W) (t : Fin cfg0.N)
    (h : cfg0.idle w (grid0.coords t) = true → ∃ d, (dats m 0 c).before w t d = (dats m 0 c).after w t) :
    owns (c : Thread nD τ) ((cfg0.win w).stage (cfg0.slots t w)) fullShare ((dats m 0 c).after w t) ⊢ leavesAt m c w t := by
  unfold leavesAt
  cases hi : cfg0.idle w (grid0.coords t)
  · exact .rfl
  · cases (cfg0.win w).flush t
    · obtain ⟨d, hd⟩ := h hi
      simp only []
      iintro H; iexists d; rw [hd]; iexact H
    · exact .rfl

/-- Handing a buffer back as found, at a point that neither stores into it nor writes it back. -/
theorem leavesAt_of_before (c : Dev nD) (w : Fin cfg0.W) (t : Fin cfg0.N) (hi : cfg0.idle w (grid0.coords t) = true)
    (hf : (cfg0.win w).flush t = false) :
    iprop(∃ d, owns (c : Thread nD τ) ((cfg0.win w).stage (cfg0.slots t w)) fullShare ((dats m 0 c).before w t d)) ⊢ leavesAt m c w t := by
  unfold leavesAt; rw [hi, hf]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ leavesAt m c 5 t
    ∗ leavesAt m c 6 t
    ∗ leavesAt m c 7 t
    ∗ leavesAt m c 8 t)

set_option maxHeartbeats 1000000 in
/-- The body at any point: the case theorem that applies, and the scratch's columns tracked. -/
theorem sound_body (c : Dev nD) (t : Fin cfg0.N) :
    bodyPre m c t ⊢ wp frame (wpE (defs₀ (F := F)) Variants.none c none) Set.univ (bodyAt0 t) (fun _ => bodyPost m c t) := by
  have hΦ : (dats m 0 c).Φ t.castSucc = inv m c t.val := rfl
  have hΦ' : (dats m 0 c).Φ t.succ = inv m c (t.val + 1) := rfl
  unfold bodyPre bodyPost bodyAt0
  rw [hΦ, hΦ', show (dats m 0 c).owesAt () t.succ = (dats m 0 c).owesAt () t.castSucc from rfl]
  simp only [before0_0, before0_1, before0_2, before0_3, before0_4, after0_0, after0_1, after0_2, after0_3, after0_4, iblk_acts]
  unfold inv
  have hN : cfg0.N = 10 := N_0
  by_cases h0 : t.val = 0
  · have h1 : k0_cond1 (grid0.coords t) = 1#1 := (cond1_iff t).mpr h0
    have h2 : ¬ k0_cond2 (grid0.coords t) = 1#1 := fun h => by have := (cond2_iff t).mp h; omega
    iintro ⟨⟨⟨%h, %hT, HS⟩, HR⟩, Ho, ⟨%d0, H0⟩, ⟨%d1, H1⟩, ⟨%d2, H2⟩, ⟨%d3, H3⟩, ⟨%d4, H4⟩, H5, H6, ⟨%d7, H7⟩, ⟨%d8, H8⟩⟩
    iapply (sound_first c Set.univ (grid0.coords t) h1 h2 _ _ _ _ _ _ _ _ _ _ _ _ _ _ _ _ _ _ _ _ (acts m c) (iblk m c 1 t) (iblk m c 2 t) (iblk m c 3 t) (iblk m c 4 t) h _)
    isplitl [H0]; · iexact H0
    isplitl [H1]; · iexact H1
    isplitl [H2]; · iexact H2
    isplitl [H3]; · iexact H3
    isplitl [H4]; · iexact H4
    isplitl [H7]; · iexists _; iexact H7
    isplitl [H8]; · iexists _; iexact H8
    isplitl [HS]; · iexact HS
    iintro ⟨H0, H1, H2, H3, H4, H7, H8, ⟨%h', %hs, HS⟩⟩
    isplitl [HS HR]
    · isplitl [HS]
      · iexists h'; isplitr
        · ipureintro; exact tracked_succ (slab m c) t h h' hs hT
        iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]
    · iapply (leavesAt_of_before m c 5 t ((idle5 t).trans (by simp [h0])) (by rw [Bool.eq_false_iff]; intro hf; have := (flush0_5 t).mp hf; omega)); iexact H5
    isplitl [H6]
    · iapply (leavesAt_of_before m c 6 t ((idle6 t).trans (by simp [h0])) (by rw [Bool.eq_false_iff]; intro hf; have := (flush0_6 t).mp hf; omega)); iexact H6
    isplitl [H7]
    · iapply (leavesAt_of_after m c 7 t (fun hi => absurd ((idle7 t).symm.trans hi) (by simp [h0]))); rw [after0_7]; iexact H7
    iapply (leavesAt_of_after m c 8 t (fun hi => absurd ((idle8 t).symm.trans hi) (by simp [h0]))); rw [after0_8]; iexact H8
  · by_cases h9 : t.val = 9
    · have h1 : ¬ k0_cond1 (grid0.coords t) = 1#1 := fun h => h0 ((cond1_iff t).mp h)
      have h2 : k0_cond2 (grid0.coords t) = 1#1 := (cond2_iff t).mpr h9
      simp only [before0_7 m c t h0, before0_8 m c t h0]
      iintro ⟨⟨⟨%h, %hT, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_last c Set.univ (grid0.coords t) h1 h2 _ _ _ _ _ _ _ _ _ _ _ _ _ _ _ _ _ _ _ _ (acts m c) (iblk m c 1 t) (iblk m c 2 t) (iblk m c 3 t) (iblk m c 4 t) (xCodes (acts m c)) (xScale (acts m c)) h _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H5]; · iexists _; iexact H5
      isplitl [H6]; · iexists _; iexact H6
      isplitl [HS]; · iexact HS
      iintro ⟨H0, H1, H2, H3, H4, H7, H8, ⟨%h', %hs, H5, H6, HS⟩⟩
      have hT' : Tracked (slab m c) (t.val + 1) h' := tracked_succ (slab m c) t h h' hs hT
      have hh : h' = hidden m c := tracked_all (slab m c) h' (by rw [h9] at hT'; exact hT')
      isplitl [HS HR]
      · isplitl [HS]
        · iexists h'; isplitr
          · ipureintro; exact hT'
          iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]
      · iapply (leavesAt_of_after m c 5 t (fun hi => absurd ((idle5 t).symm.trans hi) (by simp [h9]))); rw [after0_5, ← hh]; iexact H5
      isplitl [H6]
      · iapply (leavesAt_of_after m c 6 t (fun hi => absurd ((idle6 t).symm.trans hi) (by simp [h9]))); rw [after0_6, ← hh]; iexact H6
      isplitl [H7]
      · iapply (leavesAt_of_after m c 7 t (fun _ => ⟨d7, (before0_7 m c t h0 d7).trans (after0_7 m c t).symm⟩)); rw [after0_7]; iexact H7
      iapply (leavesAt_of_after m c 8 t (fun _ => ⟨d8, (before0_8 m c t h0 d8).trans (after0_8 m c t).symm⟩)); rw [after0_8]; iexact H8
    · have h1 : ¬ k0_cond1 (grid0.coords t) = 1#1 := fun h => h0 ((cond1_iff t).mp h)
      have h2 : ¬ k0_cond2 (grid0.coords t) = 1#1 := fun h => h9 ((cond2_iff t).mp h)
      simp only [before0_7 m c t h0, before0_8 m c t h0]
      iintro ⟨⟨⟨%h, %hT, HS⟩, HR⟩, Ho, ⟨%d0, H0⟩, ⟨%d1, H1⟩, ⟨%d2, H2⟩, ⟨%d3, H3⟩, ⟨%d4, H4⟩, H5, H6, ⟨%d7, H7⟩, ⟨%d8, H8⟩⟩
      iapply (sound_mid c Set.univ (grid0.coords t) h1 h2 _ _ _ _ _ _ _ _ _ _ _ _ _ _ _ _ _ _ _ _ (acts m c) (iblk m c 1 t) (iblk m c 2 t) (iblk m c 3 t) (iblk m c 4 t) (xCodes (acts m c)) (xScale (acts m c)) h _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [HS]; · iexact HS
      iintro ⟨H0, H1, H2, H3, H4, H7, H8, ⟨%h', %hs, HS⟩⟩
      have hT' : Tracked (slab m c) (t.val + 1) h' := tracked_succ (slab m c) t h h' hs hT
      isplitl [HS HR]
      · isplitl [HS]
        · iexists h'; isplitr
          · ipureintro; exact hT'
          iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]
      · iapply (leavesAt_of_before m c 5 t ((idle5 t).trans (by simp [h9])) (by rw [Bool.eq_false_iff]; intro hf; have := (flush0_5 t).mp hf; have := t.isLt; omega)); iexact H5
      isplitl [H6]
      · iapply (leavesAt_of_before m c 6 t ((idle6 t).trans (by simp [h9])) (by rw [Bool.eq_false_iff]; intro hf; have := (flush0_6 t).mp hf; have := t.isLt; omega)); iexact H6
      isplitl [H7]
      · iapply (leavesAt_of_after m c 7 t (fun _ => ⟨d7, (before0_7 m c t h0 d7).trans (after0_7 m c t).symm⟩)); rw [after0_7]; iexact H7
      iapply (leavesAt_of_after m c 8 t (fun _ => ⟨d8, (before0_8 m c t h0 d8).trans (after0_8 m c t).symm⟩)); rw [after0_8]; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch and the generator register at any contents give the invariant before the first point, -/
theorem inv_of_rest (c : Dev nD) : Pipeline.ΦA spec0 c ⊢ (dats m 0 c).Φ 0 := by
  show _ ⊢ inv m c 0
  unfold Pipeline.ΦA inv
  rw [scopedRest0_eq]
  iintro ⟨⟨%f, HS⟩, HR⟩
  isplitl [HS]
  · iexists f; isplitr
    · ipureintro; exact tracked_zero _ _
    rw [owns_whole]; iexact HS
  iexact HR

/-- and the invariant after the last point gives them back. -/
theorem rest_of_inv (c : Dev nD) : (dats m 0 c).Φ (Fin.last cfg0.N) ⊢ Pipeline.ΦA spec0 c := by
  show inv m c _ ⊢ _
  unfold Pipeline.ΦA inv
  rw [scopedRest0_eq]
  iintro ⟨⟨%h, -, HS⟩, HR⟩
  isplitl [HS]
  · iexists h; rw [← owns_whole]; iexact HS
  iexact HR

set_option backward.isDefEq.respectTransparency.types false in
set_option maxHeartbeats 800000 in
/-- The kernel's run: it terminates with every array of the pipeline at what the proof data states, every other unscoped buffer as
    the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := inv_of_rest m) (hout := rest_of_inv m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The row scales of the hidden array, at the end. -/
theorem arrAt_5 (c : Dev nD) : (dats m 0 c).arrAt 5 (cfgs 0).N = hScale (hidden m c) := by
  refine (dats m 0 c).arrAt_eq_of_after_last 5 t0_9 (by decide +kernel) _ fun j => ?_
  rw [after0_5]; rfl
/-- The codes of the hidden array, at the end. -/
theorem arrAt_6 (c : Dev nD) : (dats m 0 c).arrAt 6 (cfgs 0).N = hCodes (hidden m c) := by
  refine (dats m 0 c).arrAt_eq_of_after_last 6 t0_9 (by decide +kernel) _ fun j => ?_
  rw [after0_6]; rfl
/-- The codes of the activations, at the end. -/
theorem arrAt_7 (c : Dev nD) : (dats m 0 c).arrAt 7 (cfgs 0).N = xCodes (acts m c) := by
  refine (dats m 0 c).arrAt_eq_of_after_last 7 t0_9 (by decide +kernel) _ fun j => ?_
  rw [after0_7]; rfl
/-- The row scales of the activations, at the end. -/
theorem arrAt_8 (c : Dev nD) : (dats m 0 c).arrAt 8 (cfgs 0).N = xScale (acts m c) := by
  refine (dats m 0 c).arrAt_eq_of_after_last 8 t0_9 (by decide +kernel) _ fun j => ?_
  rw [after0_8]; rfl

end Cert.Kernel.Hand

end
-- ==== Proof.Quantiser.lean ====
/-
  The quantiser of the two programs is one function: the row scales and the codes the kernel computes from the
  activations, and from the hidden array, are the ones the reference computes.
-/
module

public import proofs.«01_k».proof.Proof.KernelValues
public import proofs.«01_k».proof.Proof.Gen.Reference.Frame
public import Idealize.ShloMosaic.Lib.Pipeline.ValueKit

@[expose] public section

noncomputable section

namespace Cert.Equation

open Idealize.ShloMosaic

variable {F : FTy → Type} [BitOps F]

/-- The reference's whole-block load of the activations reads them. -/
theorem ld_acts (x : Vec F Reference.S16x7168 .bf16) : View.ld x Reference.Gen.r0_0 = x :=
  View.ld_unit_zero (by decide) _ x

/-- The row scales of the activations agree. -/
theorem xScale_eq (x : Vec F Reference.S16x7168 .bf16) (w : Vec F Reference.S7168x10240 .fp8e4m3)
    (s : Vec F Reference.S1x10240 .f32) :
    Reference.Gen.k0_pay47 x w s = Kernel.Hand.xScale x := by
  unfold Reference.Gen.k0_pay47 Reference.Gen.k0_pay44 Reference.Gen.k0_pay45
  rw [ld_acts]
  rfl

/-- The codes of the activations agree. -/
theorem xCodes_eq (x : Vec F Reference.S16x7168 .bf16) (w : Vec F Reference.S7168x10240 .fp8e4m3)
    (s : Vec F Reference.S1x10240 .f32) :
    Reference.Gen.k0_pay51 x w s = Kernel.Hand.xCodes x := by
  unfold Reference.Gen.k0_pay51 Reference.Gen.k0_pay43 Reference.Gen.k0_pay50 Reference.Gen.k0_pay44
    Reference.Gen.k0_pay45
  rw [ld_acts]
  rfl

/-- The row scales of the hidden array agree: `g` is the reference's scaled product, `k0_pay28 g` its hidden array. -/
theorem hScale_eq (g : Vec F Reference.S16x10240 .f32) :
    Reference.Gen.k0_pay38 (F := F) (Reference.Gen.k0_pay34 (F := F)) (Reference.Gen.k0_pay36 (F := F))
      (Reference.Gen.k0_pay37 (F := F) (Reference.Gen.k0_pay30 g) (Reference.Gen.k0_pay31 g))
      = Kernel.Hand.hScale (Reference.Gen.k0_pay28 g) := by
  rfl

/-- The codes of the hidden array agree. -/
theorem hCodes_eq (g : Vec F Reference.S16x10240 .f32) :
    Reference.Gen.k0_pay1 (Reference.Gen.k0_pay28 g) (Reference.Gen.k0_pay39 (F := F) (Reference.Gen.k0_pay33 (F := F)))
      (Reference.Gen.k0_pay41 (F := F) (Reference.Gen.k0_pay33 (F := F)))
      (Reference.Gen.k0_pay42 (F := F) (Reference.Gen.k0_pay32 (Reference.Gen.k0_pay30 g) (Reference.Gen.k0_pay31 g))
        (Reference.Gen.k0_pay33 (F := F)))
      = Kernel.Hand.hCodes (Reference.Gen.k0_pay28 g) := by
  rfl

end Cert.Equation

end
-- ==== Proof.Slabs.lean ====
/-
  The hidden array of the two programs is one array: the reference multiplies the codes by twenty slabs of 512 columns of
  the weights and lays the products end to end; grid point `t` of the kernel multiplies them by slabs `t` and `t + 10`.
-/
module

public import proofs.«01_k».proof.Proof.Quantiser
public import proofs.«01_k».proof.Proof.KernelHidden

@[expose] public section

set_option maxRecDepth 16384

noncomputable section

namespace Cert.Equation

open Idealize.ShloMosaic
open Cert.Reference (S16x7168 S7168x10240 S1x10240 S16x1 S16x512 S7168x512 S16x10240 S16x5120)

variable {F : FTy → Type} [BitOps F]

/-- The rectangle of slab `k` of the weights. -/
def slabOf (k : Fin 20) : Rect S7168x10240 :=
  Rect.unit (s := S7168x10240) ![0, 512 * k.val] S7168x512.size (fun a => by
    have hk := k.isLt
    match a with
    | ⟨0, _⟩ => exact Nat.le_refl 7168
    | ⟨1, _⟩ => show 512 * k.val + 512 ≤ 10240; omega)

/-- The rectangle of slab `k` of the weights' scales. -/
def scalesOf (k : Fin 20) : Rect S1x10240 :=
  Rect.unit (s := S1x10240) ![0, 512 * k.val] ![1, 512] (fun a => by
    have hk := k.isLt
    match a with
    | ⟨0, _⟩ => exact Nat.le_refl 1
    | ⟨1, _⟩ => show 512 * k.val + 512 ≤ 10240; omega)

/-- The codes times one slab of the weights. -/
def product (xc : Vec F S16x7168 .fp8e4m3) (w : Vec F S7168x512 .fp8e4m3) : Vec F S16x512 .f32 :=
  matmul Reference.dot_S16x7168_S7168x512_S16x512_1_0_0_1_n_n none xc w (constant S16x512 .f32 0x00000000#32)

/-- The products with all twenty slabs, end to end. -/
def products (xc : Vec F S16x7168 .fp8e4m3) (w : Vec F S7168x10240 .fp8e4m3) : Vec F S16x10240 .f32 :=
  concatenate S16x10240 1
    [⟨S16x512, product xc (View.ld w Reference.Gen.r0_1)⟩,
      ⟨S16x512, product xc (View.ld w Reference.Gen.r0_2)⟩,
      ⟨S16x512, product xc (View.ld w Reference.Gen.r0_3)⟩,
      ⟨S16x512, product xc (View.ld w Reference.Gen.r0_4)⟩,
      ⟨S16x512, product xc (View.ld w Reference.Gen.r0_5)⟩,
      ⟨S16x512, product xc (View.ld w Reference.Gen.r0_6)⟩,
      ⟨S16x512, product xc (View.ld w Reference.Gen.r0_7)⟩,
      ⟨S16x512, product xc (View.ld w Reference.Gen.r0_8)⟩,
      ⟨S16x512, product xc (View.ld w Reference.Gen.r0_9)⟩,
      ⟨S16x512, product xc (View.ld w Reference.Gen.r0_10)⟩,
      ⟨S16x512, product xc (View.ld w Reference.Gen.r0_11)⟩,
      ⟨S16x512, product xc (View.ld w Reference.Gen.r0_12)⟩,
      ⟨S16x512, product xc (View.ld w Reference.Gen.r0_13)⟩,
      ⟨S16x512, product xc (View.ld w Reference.Gen.r0_14)⟩,
      ⟨S16x512, product xc (View.ld w Reference.Gen.r0_15)⟩,
      ⟨S16x512, product xc (View.ld w Reference.Gen.r0_16)⟩,
      ⟨S16x512, product xc (View.ld w Reference.Gen.r0_17)⟩,
      ⟨S16x512, product xc (View.ld w Reference.Gen.r0_18)⟩,
      ⟨S16x512, product xc (View.ld w Reference.Gen.r0_19)⟩,
      ⟨S16x512, product xc (View.ld w Reference.Gen.r0_20)⟩]
    Reference.Facts₀.concatenates_S16x512_S16x512_S16x512_S16x512_S16x512_S16x512_S16x512_S16x512_S16x512_S16x512_S16x512_S16x512_S16x512_S16x512_S16x512_S16x512_S16x512_S16x512_S16x512_S16x512_S16x10240_d1

/-- The products' pieces, numbered. -/
theorem products_ofFn (xc : Vec F S16x7168 .fp8e4m3) (w : Vec F S7168x10240 .fp8e4m3) :
    ([⟨S16x512, product xc (View.ld w Reference.Gen.r0_1)⟩,
      ⟨S16x512, product xc (View.ld w Reference.Gen.r0_2)⟩,
      ⟨S16x512, product xc (View.ld w Reference.Gen.r0_3)⟩,
      ⟨S16x512, product xc (View.ld w Reference.Gen.r0_4)⟩,
      ⟨S16x512, product xc (View.ld w Reference.Gen.r0_5)⟩,
      ⟨S16x512, product xc (View.ld w Reference.Gen.r0_6)⟩,
      ⟨S16x512, product xc (View.ld w Reference.Gen.r0_7)⟩,
      ⟨S16x512, product xc (View.ld w Reference.Gen.r0_8)⟩,
      ⟨S16x512, product xc (View.ld w Reference.Gen.r0_9)⟩,
      ⟨S16x512, product xc (View.ld w Reference.Gen.r0_10)⟩,
      ⟨S16x512, product xc (View.ld w Reference.Gen.r0_11)⟩,
      ⟨S16x512, product xc (View.ld w Reference.Gen.r0_12)⟩,
      ⟨S16x512, product xc (View.ld w Reference.Gen.r0_13)⟩,
      ⟨S16x512, product xc (View.ld w Reference.Gen.r0_14)⟩,
      ⟨S16x512, product xc (View.ld w Reference.Gen.r0_15)⟩,
      ⟨S16x512, product xc (View.ld w Reference.Gen.r0_16)⟩,
      ⟨S16x512, product xc (View.ld w Reference.Gen.r0_17)⟩,
      ⟨S16x512, product xc (View.ld w Reference.Gen.r0_18)⟩,
      ⟨S16x512, product xc (View.ld w Reference.Gen.r0_19)⟩,
      ⟨S16x512, product xc (View.ld w Reference.Gen.r0_20)⟩] : List ((s : Shape) × (s.Idx → Elt F .f32)))
      = List.ofFn fun k : Fin 20 =>
          (⟨S16x512, product xc (View.ld w (slabOf k))⟩ : (s : Shape) × (s.Idx → Elt F .f32)) := by
  simp only [List.ofFn_succ, List.ofFn_zero]
  rfl

/-- The reference's scaled product. -/
theorem scaled_eq (x : Vec F S16x7168 .bf16) (w : Vec F S7168x10240 .fp8e4m3) (s : Vec F S1x10240 .f32) :
    Reference.Gen.k0_pay52 x w s
      = mulf (mulf (products (Kernel.Hand.xCodes x) w)
          (broadcastTo S16x10240 (Kernel.Hand.xScale x) Reference.Facts₀.broadcasts_S16x1_S16x10240))
          (broadcastTo S16x10240 s Reference.Facts₀.broadcasts_S1x10240_S16x10240) := by
  have hs : View.ld s Reference.Gen.r0_21 = s := View.ld_unit_zero (by decide) _ s
  have hc : shapeCast Reference.S1x10240 s Reference.Facts₀.shapeCasts_S1x10240_S1x10240 = s := shapeCast_self _ _
  rw [← xCodes_eq x w s, ← xScale_eq x w s]
  unfold Reference.Gen.k0_pay52
  rw [hs]
  conv_rhs => rw [← hc]
  rfl

/-- The products read at row `r`, column `512 * k + j`: product `k` at row `r`, column `j`. -/
theorem products_apply (xc : Vec F S16x7168 .fp8e4m3) (w : Vec F S7168x10240 .fp8e4m3) (y : S16x10240.Idx)
    (k : Fin 20) (i : S16x512.Idx) (hk : (y 1).val / 512 = k.val) (h0 : (i 0).val = (y 0).val)
    (h1 : (i 1).val = (y 1).val % 512) :
    products xc w y = product xc (View.ld w (slabOf k)) i := by
  unfold products
  rw [StableHlo.concatenate_congr S16x10240 1 (products_ofFn xc w) _ (by rw [← products_ofFn]; exact Reference.Facts₀.concatenates_S16x512_S16x512_S16x512_S16x512_S16x512_S16x512_S16x512_S16x512_S16x512_S16x512_S16x512_S16x512_S16x512_S16x512_S16x512_S16x512_S16x512_S16x512_S16x512_S16x512_S16x10240_d1)]
  refine concatenate_ofFn_apply (t := S16x10240) (s₁ := S16x512) 1 _ _ rfl 512 rfl y k hk i h1 fun b hb => ?_
  match b with
  | ⟨0, _⟩ => exact h0
  | ⟨1, _⟩ => exact absurd rfl hb

/-- One slab of the reference's scaled product: the product with that slab, times the row scales, times the slab's column
    scales. -/
theorem scaled_apply (xc : Vec F S16x7168 .fp8e4m3) (xs : Vec F S16x1 .f32) (w : Vec F S7168x10240 .fp8e4m3)
    (s : Vec F S1x10240 .f32) (y : S16x10240.Idx) (k : Fin 20) (i : S16x512.Idx) (hk : (y 1).val / 512 = k.val)
    (h0 : (i 0).val = (y 0).val) (h1 : (i 1).val = (y 1).val % 512) :
    mulf (mulf (products xc w) (broadcastTo S16x10240 xs Reference.Facts₀.broadcasts_S16x1_S16x10240))
        (broadcastTo S16x10240 s Reference.Facts₀.broadcasts_S1x10240_S16x10240) y
      = mulf (mulf (product xc (View.ld w (slabOf k)))
          (broadcastTo S16x512 xs Kernel.Facts₀.broadcasts_S16x1_S16x512))
          (broadcastTo S16x512 (View.ld s (scalesOf k)) Kernel.Facts₀.broadcasts_S1x512_S16x512) i := by
  have e1 := products_apply xc w y k i hk h0 h1
  have e2 : broadcastTo S16x10240 xs Reference.Facts₀.broadcasts_S16x1_S16x10240 y
      = broadcastTo S16x512 xs Kernel.Facts₀.broadcasts_S16x1_S16x512 i := by
    refine congrArg xs (funext fun a => Fin.ext ?_)
    match a with
    | ⟨0, _⟩ => exact h0.symm
    | ⟨1, _⟩ => rfl
  have e3 : broadcastTo S16x10240 s Reference.Facts₀.broadcasts_S1x10240_S16x10240 y
      = broadcastTo S16x512 (View.ld s (scalesOf k)) Kernel.Facts₀.broadcasts_S1x512_S16x512 i := by
    refine congrArg s (funext fun a => Fin.ext ?_)
    match a with
    | ⟨0, _⟩ => rfl
    | ⟨1, _⟩ =>
      show (y 1).val = 512 * k.val + 1 * (i 1).val
      omega
  show FloatOps.mulf (FloatOps.mulf _ _) _ = FloatOps.mulf (FloatOps.mulf _ _) _
  rw [e1, e2, e3]

/-- The hidden array assembled from the kernel's slabs is the reference's, when grid point `t` reads slabs `t` and `t + 10`
    of the weights and of their scales. -/
theorem hidden_eq (x : Vec F S16x7168 .bf16) (w : Vec F S7168x10240 .fp8e4m3) (s : Vec F S1x10240 .f32)
    (wg wu : Fin Kernel.grid0.N → Vec F S7168x512 .fp8e4m3) (sg su : Fin Kernel.grid0.N → Vec F Kernel.S1x512 .f32)
    (hwg : ∀ (t : Fin Kernel.grid0.N) (k : Fin 20), k.val = t.val → wg t = View.ld w (slabOf k))
    (hwu : ∀ (t : Fin Kernel.grid0.N) (k : Fin 20), k.val = t.val + 10 → wu t = View.ld w (slabOf k))
    (hsg : ∀ (t : Fin Kernel.grid0.N) (k : Fin 20), k.val = t.val → sg t = View.ld s (scalesOf k))
    (hsu : ∀ (t : Fin Kernel.grid0.N) (k : Fin 20), k.val = t.val + 10 → su t = View.ld s (scalesOf k)) :
    Kernel.Hand.assemble (fun t => Kernel.Hand.hSlab (Kernel.Hand.xCodes x) (Kernel.Hand.xScale x)
        (wg t) (wu t) (sg t) (su t))
      = Reference.Gen.k0_pay28 (Reference.Gen.k0_pay52 x w s) := by
  funext y
  have hy : (y 1).val < 5120 := (y 1).isLt
  have ht : (Kernel.Hand.pointOf y).val = (y 1).val / 512 := rfl
  unfold Kernel.Hand.assemble Kernel.Hand.hSlab Kernel.Gen.k0_pay2 Reference.Gen.k0_pay28
  rw [scaled_eq]
  simp only [shapeCast_self]
  rw [hwg _ ⟨(y 1).val / 512, by omega⟩ rfl, hsg _ ⟨(y 1).val / 512, by omega⟩ rfl,
    hwu _ ⟨(y 1).val / 512 + 10, by omega⟩ rfl, hsu _ ⟨(y 1).val / 512 + 10, by omega⟩ rfl]
  have eg := scaled_apply (Kernel.Hand.xCodes x) (Kernel.Hand.xScale x) w s
    (fun a => ⟨![0, 0] a + (y a).val, by
      match a with
      | ⟨0, _⟩ => show 0 + (y 0).val < 16; have h : (y 0).val < 16 := (y 0).isLt; omega
      | ⟨1, _⟩ => show 0 + (y 1).val < 10240; omega⟩)
    ⟨(y 1).val / 512, by omega⟩ (Kernel.Hand.within y)
    (by show (0 + (y 1).val) / 512 = (y 1).val / 512; omega)
    (by show (y 0).val = 0 + (y 0).val; omega)
    (by show (y 1).val % 512 = (0 + (y 1).val) % 512; omega)
  have eu := scaled_apply (Kernel.Hand.xCodes x) (Kernel.Hand.xScale x) w s
    (fun a => ⟨![0, 5120] a + (y a).val, by
      match a with
      | ⟨0, _⟩ => show 0 + (y 0).val < 16; have h : (y 0).val < 16 := (y 0).isLt; omega
      | ⟨1, _⟩ => show 5120 + (y 1).val < 10240; omega⟩)
    ⟨(y 1).val / 512 + 10, by omega⟩ (Kernel.Hand.within y)
    (by show (5120 + (y 1).val) / 512 = (y 1).val / 512 + 10; omega)
    (by show (y 0).val = 0 + (y 0).val; omega)
    (by show (y 1).val % 512 = (5120 + (y 1).val) % 512; omega)
  exact (congrArg₂ (fun g u : F .f32 => FloatOps.mulf (FloatOps.mulf g (FloatOps.logistic g)) u) eg eu).symm

end Cert.Equation

end
-- ==== Proof.Arrays.lean ====
/-
  What the two programs read and leave: each block the kernel's grid points read, and each the reference reads, as a part of
  the argument arrays; and the reference's four results as functions of what it reads.
-/
module

public import proofs.«01_k».proof.Proof.KernelRun
public import proofs.«01_k».proof.Proof.Slabs

@[expose] public section

set_option maxRecDepth 16384

noncomputable section

namespace Cert.Kernel.Hand

open Cert.Kernel Cert.Kernel.Gen
open Idealize.ShloMosaic Idealize.ShloMosaic.TcCoe Idealize.ShloMosaic.Tactic

variable {F : FTy → Type} [BitOps F]
variable (m : (ℓ : Loc nD τ sig) → Buf (Elt F) ℓ)

/-- The kernel reads the whole array of activations. -/
theorem acts_eq (c : Dev nD) : acts m c = V m c main_v1 := by
  funext y
  refine congrArg (V m c main_v1) (funext fun a => Fin.ext ?_)
  match a with
  | ⟨0, _⟩ => show 0 * 16 + 1 * (y 0).val = (y 0).val; omega
  | ⟨1, _⟩ => show 0 * 7168 + 1 * (y 1).val = (y 1).val; omega

/-- The activations are the first argument without its middle axis. -/
theorem V_main_v1 (c : Dev nD) : V m c main_v1 = shapeCast S16x7168 (m (c, main_arg0)) Facts₀.shapeCasts_S16x1x7168_S16x7168 := by
  unfold_abbrev_sides
  after_results
  rfl

/-- The weights' scales are the third argument as one row. -/
theorem V_main_v0 (c : Dev nD) : V m c main_v0 = shapeCast S1x10240 (m (c, main_arg2)) Facts₀.shapeCasts_S10240_S1x10240 := by
  unfold_abbrev_sides
  after_results
  rfl

/-- The block index of each weight window at each grid point. -/
theorem transform1_eq : ∀ t : Fin grid0.N, cc0_transform_1 (grid0.coords t) = ![0, t.val] := by decide +kernel
theorem transform2_eq : ∀ t : Fin grid0.N, cc0_transform_2 (grid0.coords t) = ![0, t.val + 10] := by decide +kernel
theorem transform3_eq : ∀ t : Fin grid0.N, cc0_transform_3 (grid0.coords t) = ![0, t.val] := by decide +kernel
theorem transform4_eq : ∀ t : Fin grid0.N, cc0_transform_4 (grid0.coords t) = ![0, t.val + 10] := by decide +kernel

/-- The gate's block of the weights at grid point `t` is slab `t`. -/
theorem iblk_1 (c : Dev nD) (t : Fin grid0.N) (k : Fin 20) (hk : k.val = t.val) :
    iblk m c 1 t = View.ld (V m c main_arg1) (Equation.slabOf k) := by
  funext y
  refine congrArg (V m c main_arg1) (funext fun a => Fin.ext ?_)
  show cc0_transform_1 (grid0.coords t) a * S7168x512.size a + 1 * (y a).val = ![0, 512 * k.val] a + 1 * (y a).val
  rw [transform1_eq]
  match a with
  | ⟨0, _⟩ => show 0 * 7168 + 1 * (y 0).val = 0 + 1 * (y 0).val; omega
  | ⟨1, _⟩ => show t.val * 512 + 1 * (y 1).val = 512 * k.val + 1 * (y 1).val; omega

/-- The up block of the weights at grid point `t` is slab `t + 10`. -/
theorem iblk_2 (c : Dev nD) (t : Fin grid0.N) (k : Fin 20) (hk : k.val = t.val + 10) :
    iblk m c 2 t = View.ld (V m c main_arg1) (Equation.slabOf k) := by
  funext y
  refine congrArg (V m c main_arg1) (funext fun a => Fin.ext ?_)
  show cc0_transform_2 (grid0.coords t) a * S7168x512.size a + 1 * (y a).val = ![0, 512 * k.val] a + 1 * (y a).val
  rw [transform2_eq]
  match a with
  | ⟨0, _⟩ => show 0 * 7168 + 1 * (y 0).val = 0 + 1 * (y 0).val; omega
  | ⟨1, _⟩ => show (t.val + 10) * 512 + 1 * (y 1).val = 512 * k.val + 1 * (y 1).val; omega

/-- The gate's block of the weights' scales at grid point `t` is slab `t`. -/
theorem iblk_3 (c : Dev nD) (t : Fin grid0.N) (k : Fin 20) (hk : k.val = t.val) :
    iblk m c 3 t = View.ld (V m c main_v0) (Equation.scalesOf k) := by
  funext y
  refine congrArg (V m c main_v0) (funext fun a => Fin.ext ?_)
  show cc0_transform_3 (grid0.coords t) a * S1x512.size a + 1 * (y a).val = ![0, 512 * k.val] a + 1 * (y a).val
  rw [transform3_eq]
  match a with
  | ⟨0, _⟩ => show 0 * 1 + 1 * (y 0).val = 0 + 1 * (y 0).val; omega
  | ⟨1, _⟩ => show t.val * 512 + 1 * (y 1).val = 512 * k.val + 1 * (y 1).val; omega

/-- The up block of the weights' scales at grid point `t` is slab `t + 10`. -/
theorem iblk_4 (c : Dev nD) (t : Fin grid0.N) (k : Fin 20) (hk : k.val = t.val + 10) :
    iblk m c 4 t = View.ld (V m c main_v0) (Equation.scalesOf k) := by
  funext y
  refine congrArg (V m c main_v0) (funext fun a => Fin.ext ?_)
  show cc0_transform_4 (grid0.coords t) a * S1x512.size a + 1 * (y a).val = ![0, 512 * k.val] a + 1 * (y a).val
  rw [transform4_eq]
  match a with
  | ⟨0, _⟩ => show 0 * 1 + 1 * (y 0).val = 0 + 1 * (y 0).val; omega
  | ⟨1, _⟩ => show (t.val + 10) * 512 + 1 * (y 1).val = 512 * k.val + 1 * (y 1).val; omega

/-- The kernel's hidden array is the reference's hidden array of the arrays the kernel reads. -/
theorem hidden_eq (c : Dev nD) :
    hidden m c = Reference.Gen.k0_pay28
      (Reference.Gen.k0_pay52 (V m c main_v1) (V m c main_arg1) (V m c main_v0)) := by
  rw [← acts_eq]
  exact Equation.hidden_eq (acts m c) (V m c main_arg1) (V m c main_v0) _ _ _ _
    (iblk_1 m c) (iblk_2 m c) (iblk_3 m c) (iblk_4 m c)

end Cert.Kernel.Hand

namespace Cert.Reference.Hand

open Cert.Reference Cert.Reference.Gen
open Idealize.ShloMosaic Idealize.ShloMosaic.TcCoe Idealize.ShloMosaic.Tactic

variable {F : FTy → Type} [BitOps F]
variable (m : (ℓ : Loc nD τ sig) → Buf (Elt F) ℓ)

/-- The reference reads the whole array of activations. -/
theorem iblk_0 (c : Dev nD) (t : Fin cfg0.N) : iblk m c 0 t = V m c main_v0 := by
  funext y
  refine congrArg (V m c main_v0) (funext fun a => Fin.ext ?_)
  match a with
  | ⟨0, _⟩ => show 0 * 16 + 1 * (y 0).val = (y 0).val; omega
  | ⟨1, _⟩ => show 0 * 7168 + 1 * (y 1).val = (y 1).val; omega

/-- The reference reads the whole array of weights. -/
theorem iblk_1 (c : Dev nD) (t : Fin cfg0.N) : iblk m c 1 t = V m c main_arg1 := by
  funext y
  refine congrArg (V m c main_arg1) (funext fun a => Fin.ext ?_)
  match a with
  | ⟨0, _⟩ => show 0 * 7168 + 1 * (y 0).val = (y 0).val; omega
  | ⟨1, _⟩ => show 0 * 10240 + 1 * (y 1).val = (y 1).val; omega

/-- The reference reads the whole row of the weights' scales. -/
theorem iblk_2 (c : Dev nD) (t : Fin cfg0.N) : iblk m c 2 t = V m c main_v1 := by
  funext y
  refine congrArg (V m c main_v1) (funext fun a => Fin.ext ?_)
  match a with
  | ⟨0, _⟩ => show 0 * 1 + 1 * (y 0).val = (y 0).val; omega
  | ⟨1, _⟩ => show 0 * 10240 + 1 * (y 1).val = (y 1).val; omega

/-- The activations are the first argument without its middle axis. -/
theorem V_main_v0 (c : Dev nD) : V m c main_v0 = shapeCast S16x7168 (m (c, main_arg0)) Facts₀.shapeCasts_S16x1x7168_S16x7168 := by
  unfold_abbrev_sides
  after_results
  rfl

/-- The weights' scales are the third argument as one row. -/
theorem V_main_v1 (c : Dev nD) : V m c main_v1 = shapeCast S1x10240 (m (c, main_arg2)) Facts₀.shapeCasts_S10240_S1x10240 := by
  unfold_abbrev_sides
  after_results
  rfl

/-- The hidden array the reference computes. -/
def hidden (c : Dev nD) : Vec F S16x5120 .f32 :=
  k0_pay28 (k0_pay52 (V m c main_v0) (V m c main_arg1) (V m c main_v1))

/-- The row scales of the hidden array, at the end. -/
theorem arrAt_3 (c : Dev nD) : (dats m 0 c).arrAt 3 (cfgs 0).N = Kernel.Hand.hScale (hidden m c) := by
  refine (dats m 0 c).arrAt_eq_of_after_last 3 t0_0 (by decide +kernel) _ fun j => ?_
  rw [after0_3, iblk_0, iblk_1, iblk_2]
  unfold out0_3
  rw [View.canon_unit_zero (by decide)]
  unfold k0_pay53 k0_pay54
  rw [Equation.hScale_eq]
  rfl

/-- The codes of the hidden array, at the end. -/
theorem arrAt_4 (c : Dev nD) : (dats m 0 c).arrAt 4 (cfgs 0).N = Kernel.Hand.hCodes (hidden m c) := by
  refine (dats m 0 c).arrAt_eq_of_after_last 4 t0_0 (by decide +kernel) _ fun j => ?_
  rw [after0_4, iblk_0, iblk_1, iblk_2]
  unfold out0_4
  rw [View.canon_unit_zero (by decide)]
  unfold k0_pay53 k0_pay54 k0_pay55
  rw [Equation.hCodes_eq]
  rfl

/-- The codes of the activations, at the end. -/
theorem arrAt_5 (c : Dev nD) : (dats m 0 c).arrAt 5 (cfgs 0).N = Kernel.Hand.xCodes (V m c main_v0) := by
  refine (dats m 0 c).arrAt_eq_of_after_last 5 t0_0 (by decide +kernel) _ fun j => ?_
  rw [after0_5, iblk_0, iblk_1, iblk_2]
  unfold out0_5
  rw [View.canon_unit_zero (by decide), Equation.xCodes_eq]
  rfl

/-- The row scales of the activations, at the end. -/
theorem arrAt_6 (c : Dev nD) : (dats m 0 c).arrAt 6 (cfgs 0).N = Kernel.Hand.xScale (V m c main_v0) := by
  refine (dats m 0 c).arrAt_eq_of_after_last 6 t0_0 (by decide +kernel) _ fun j => ?_
  rw [after0_6, iblk_0, iblk_1, iblk_2]
  unfold out0_6
  rw [View.canon_unit_zero (by decide), Equation.xScale_eq]
  rfl

end Cert.Reference.Hand

end
-- ==== Proof.lean ====
/-
  The proof of `Cert.Claim`. `KernelBody`, `KernelHidden` and `KernelRun` prove the kernel's run and what its four output
  arrays hold at the end; `Quantiser` and `Slabs` prove that the kernel and the reference compute the same arrays from what
  they read; `Arrays` says what each program reads of its arguments and what the reference's arrays hold at the end. This
  file puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Arrays
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- From memories that agree on the arguments the two programs read the same activations. -/
theorem acts_agree (m : (ℓ : Loc nD τ sig) → Buf (Elt Bits) ℓ)
    (m' : (ℓ : Loc Cert.Reference.nD Cert.Reference.τ Cert.Reference.sig) → Buf (Elt Bits) ℓ) (c : Dev nD)
    (h : m' ((c.tc : Thread Cert.Reference.nD Cert.Reference.τ).loc Cert.Reference.main_arg0)
      = m ((c.tc : Thread nD τ).loc main_arg0)) :
    Cert.Reference.Gen.V m' c Cert.Reference.main_v0 = Cert.Kernel.Hand.acts m c := by
  rw [Cert.Kernel.Hand.acts_eq, Cert.Reference.Hand.V_main_v0, Cert.Kernel.Hand.V_main_v1]
  exact congrArg (fun x => shapeCast S16x7168 x Facts₀.shapeCasts_S16x1x7168_S16x7168) h

/-- From memories that agree on the arguments the two programs compute the same hidden array. -/
theorem hidden_agree (m : (ℓ : Loc nD τ sig) → Buf (Elt Bits) ℓ)
    (m' : (ℓ : Loc Cert.Reference.nD Cert.Reference.τ Cert.Reference.sig) → Buf (Elt Bits) ℓ) (c : Dev nD)
    (h0 : m' ((c.tc : Thread Cert.Reference.nD Cert.Reference.τ).loc Cert.Reference.main_arg0)
      = m ((c.tc : Thread nD τ).loc main_arg0))
    (h1 : m' ((c.tc : Thread Cert.Reference.nD Cert.Reference.τ).loc Cert.Reference.main_arg1)
      = m ((c.tc : Thread nD τ).loc main_arg1))
    (h2 : m' ((c.tc : Thread Cert.Reference.nD Cert.Reference.τ).loc Cert.Reference.main_arg2)
      = m ((c.tc : Thread nD τ).loc main_arg2)) :
    Cert.Reference.Hand.hidden m' c = Cert.Kernel.Hand.hidden m c := by
  have es : Cert.Reference.Gen.V m' c Cert.Reference.main_v1 = Cert.Kernel.Gen.V m c main_v0 := by
    rw [Cert.Reference.Hand.V_main_v1, Cert.Kernel.Hand.V_main_v0]
    exact congrArg (fun x => shapeCast S1x10240 x Facts₀.shapeCasts_S10240_S1x10240) h2
  have ew : Cert.Reference.Gen.V m' c Cert.Reference.main_arg1 = Cert.Kernel.Gen.V m c main_arg1 := by
    rw [Cert.Reference.Gen.V_main_arg1, Cert.Kernel.Gen.V_main_arg1]; exact h1
  rw [Cert.Kernel.Hand.hidden_eq, ← Cert.Kernel.Hand.acts_eq, ← acts_agree m m' c h0]
  unfold Cert.Reference.Hand.hidden
  rw [es, ew]

/-- The two runs end with equal results, from memories that agree on the arguments. -/
theorem bitexact : Cert.bitexact_Kernel_Reference (hKernel := Cert.Kernel.Gen.facts)
    (hReference := Cert.Reference.Gen.facts) := by
  pair_intro
  · run_from Cert.Kernel.Hand.run_main m g
  · run_from Cert.Reference.Gen.run_main m' g'
    all_goals obtain ⟨h0, h1, h2⟩ := hagree c
    · exact (Cert.Reference.Hand.arrAt_3 m' c).trans ((congrArg Cert.Kernel.Hand.hScale (hidden_agree m m' c h0 h1 h2)).trans
        (Cert.Kernel.Hand.arrAt_5 m c).symm)
    · exact (Cert.Reference.Hand.arrAt_4 m' c).trans ((congrArg Cert.Kernel.Hand.hCodes (hidden_agree m m' c h0 h1 h2)).trans
        (Cert.Kernel.Hand.arrAt_6 m c).symm)
    · exact (Cert.Reference.Hand.arrAt_5 m' c).trans ((congrArg Cert.Kernel.Hand.xCodes (acts_agree m m' c h0)).trans
        (Cert.Kernel.Hand.arrAt_7 m c).symm)
    · exact (Cert.Reference.Hand.arrAt_6 m' c).trans ((congrArg Cert.Kernel.Hand.xScale (acts_agree m m' c h0)).trans
        (Cert.Kernel.Hand.arrAt_8 m c).symm)

/-- Both programs run to quiescence, and their results are equal. -/
theorem claim : Cert.Claim := ⟨Cert.Kernel.Gen.facts, Cert.Reference.Gen.facts,
  fun m g _ => Cert.Kernel.Hand.frame m g, fun m g _ => Cert.Reference.Gen.frame m g, bitexact⟩

end Cert.Proof

end
